-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x26 : Shape := ⟨2, ![4096, 26]⟩
abbrev S26x4096 : Shape := ⟨2, ![26, 4096]⟩
abbrev S26x1x4096 : Shape := ⟨3, ![26, 1, 4096]⟩
abbrev S13x1x4096 : Shape := ⟨3, ![13, 1, 4096]⟩
abbrev S13x1000x4096 : Shape := ⟨3, ![13, 1000, 4096]⟩
abbrev S1x1x4096 : Shape := ⟨3, ![1, 1, 4096]⟩
abbrev S1x1000x4096 : Shape := ⟨3, ![1, 1000, 4096]⟩
abbrev S26x1000x4096 : Shape := ⟨3, ![26, 1000, 4096]⟩
abbrev S4096x26x1000 : Shape := ⟨3, ![4096, 26, 1000]⟩

abbrev nBuf : Space → Nat
  | .hbm => 9
  | .vmem => 8
  | .smem => 0
  | _ => 0

abbrev bufTy : (tb : Table) → Fin (tcTables nBuf tb) → BufTy
  | .hbm, ⟨0, _⟩ => ⟨S4096x26, .i32⟩
  | .hbm, ⟨1, _⟩ => ⟨S26x4096, .i32⟩
  | .hbm, ⟨2, _⟩ => ⟨S26x1x4096, .i32⟩
  | .hbm, ⟨3, _⟩ => ⟨S13x1x4096, .i32⟩
  | .hbm, ⟨4, _⟩ => ⟨S13x1000x4096, .i32⟩
  | .hbm, ⟨5, _⟩ => ⟨S13x1x4096, .i32⟩
  | .hbm, ⟨6, _⟩ => ⟨S13x1000x4096, .i32⟩
  | .hbm, ⟨7, _⟩ => ⟨S26x1000x4096, .i32⟩
  | .hbm, ⟨8, _⟩ => ⟨S4096x26x1000, .i32⟩
  | .local _ .vmem, ⟨0, _⟩ => ⟨S1x1x4096, .i32⟩
  | .local _ .vmem, ⟨1, _⟩ => ⟨S1x1x4096, .i32⟩
  | .local _ .vmem, ⟨2, _⟩ => ⟨S1x1000x4096, .i32⟩
  | .local _ .vmem, ⟨3, _⟩ => ⟨S1x1000x4096, .i32⟩
  | .local _ .vmem, ⟨4, _⟩ => ⟨S1x1x4096, .i32⟩
  | .local _ .vmem, ⟨5, _⟩ => ⟨S1x1x4096, .i32⟩
  | .local _ .vmem, ⟨6, _⟩ => ⟨S1x1000x4096, .i32⟩
  | .local _ .vmem, ⟨7, _⟩ => ⟨S1x1000x4096, .i32⟩
  | _, _ => ⟨S4096x26, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨2, ![13, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1000x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![13, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1x4096 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1000x4096 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]
-- ==== ReferenceIdeal.lean ====
abbrev S4096x26 : Shape := ⟨2, ![4096, 26]⟩
abbrev S4096x26x1 : Shape := ⟨3, ![4096, 26, 1]⟩
abbrev S1000 : Shape := ⟨1, ![1000]⟩
abbrev S1x1x1000 : Shape := ⟨3, ![1, 1, 1000]⟩
abbrev S4096x26x1000 : Shape := ⟨3, ![4096, 26, 1000]⟩

abbrev nBuf : Space → Nat
  | .hbm => 8
  | .vmem => 0
  | .smem => 0
  | _ => 0

abbrev bufTy : (tb : Table) → Fin (tcTables nBuf tb) → BufTy
  | .hbm, ⟨0, _⟩ => ⟨S4096x26, .i32⟩
  | .hbm, ⟨1, _⟩ => ⟨S4096x26x1, .i32⟩
  | .hbm, ⟨2, _⟩ => ⟨S1000, .i32⟩
  | .hbm, ⟨3, _⟩ => ⟨S1x1x1000, .i32⟩
  | .hbm, ⟨4, _⟩ => ⟨S4096x26x1000, .i32⟩
  | .hbm, ⟨5, _⟩ => ⟨S4096x26x1000, .i32⟩
  | .hbm, ⟨6, _⟩ => ⟨S4096x26x1000, .i1⟩
  | .hbm, ⟨7, _⟩ => ⟨S4096x26x1000, .i32⟩
  | _, _ => ⟨S4096x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩

abbrev nD : Nat := 1
abbrev τ : Topo := Topo.v7x

variable {F : FTy → Type} [FloatOps F]
-- ==== Proof.OneHot.Spec.lean ====
/- The mathematics of the one-hot encoding, free of any program: one element, and the whole result as a function of the
   index array. -/
module

public import Idealize.ShloMosaic.Lib.PointwiseCore

@[expose] public section

namespace Cert.OneHot

open Idealize.ShloMosaic

/-- One element of a one-hot row: 1 in the class that the index `x` names, 0 in every other class `k`. -/
def hot (x : BitVec 32) (k : Nat) : BitVec 32 := if x = BitVec.ofNat 32 k then 1#32 else 0#32

/-- The one-hot encoding of the (4096, 26) index array: element (r, c, k) is 1 when index (r, c) is `k`, else 0. -/
def encode (x : (⟨2, ![4096, 26]⟩ : Shape).Idx → BitVec 32) : (⟨3, ![4096, 26, 1000]⟩ : Shape).Idx → BitVec 32 :=
  fun i => hot (x (ix2 (i 0) (i 1))) (i 2).val

/-- The same over 13 columns laid out column, class, row, as one call of the kernel leaves it: element (c, k, r) is 1
    when entry (c, 0, r) of the columns is `k`, else 0. -/
def encodeCols (x : (⟨3, ![13, 1, 4096]⟩ : Shape).Idx → BitVec 32) : (⟨3, ![13, 1000, 4096]⟩ : Shape).Idx → BitVec 32 :=
  fun i => hot (x (ix3 (i 0) 0 (i 2))) (i 1).val

/-- A comparison of words widened from one bit to 32 is one element of a one-hot row. -/
theorem setWidth_cmpi_eq (x : BitVec 32) (k : Nat) :
    (IntOp.cmpi .eq x (BitVec.ofNat 32 k)).setWidth 32 = hot x k := by
  unfold hot IntOp.cmpi
  by_cases h : x = BitVec.ofNat 32 k
  · simp [h]
  · have hb : (x == BitVec.ofNat 32 k) = false := by simpa using h
    simp [h, hb]

end Cert.OneHot

end
-- ==== Proof.OneHot.Columns.lean ====
/- What each of the kernel's two calls leaves in its result array: the one-hot encoding of its 13 columns. -/
module

public import proofs.«01_k».proof.Proof.OneHot.Spec
public import proofs.«01_k».proof.Proof.Gen.KernelIdeal.Frame
public import Idealize.ShloMosaic.Lib.Pipeline.ValueKit

@[expose] public section

noncomputable section

namespace Cert.KernelIdeal.Columns

open Cert.KernelIdeal Cert.KernelIdeal.Gen Cert.OneHot
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The three zero offsets of a whole block's access. -/
theorem zero3 : (![0, 0, 0] : Fin 3 → Nat) = fun _ => 0 := funext fun a => by fin_cases a <;> rfl

/-- What the body stores for a block of column entries `x` when the class axis is at its only block: the class iota
    compared with the entry of the same row. -/
theorem payload_apply (i : grid0.Coords) (x : Vec F S1x1x4096 .i32) (k : Fin 1000) (r : Fin 4096) :
    k0_pay1 i x (ix3 0 k r) = hot (x (ix3 0 0 r)) k.val := by
  have h1 : (i 1).val = 0 := Nat.lt_one_iff.mp (i 1).isLt
  have hi : iota .tc S1x1000x4096 32 [1] iota_S1x1000x4096_d1_w32 (ix3 0 k r) = BitVec.ofNat 32 k.val :=
    iota_single_apply ..
  have hx : broadcastTo S1x1000x4096 (shapeCast S1x1x4096 x shapeCasts_S1x1x4096_S1x1x4096)
      broadcasts_S1x1x4096_S1x1000x4096 (ix3 0 k r) = x (ix3 0 0 r) := by
    rw [shapeCast_self]
    exact broadcastTo_apply _ _ _ _ fun a => by fin_cases a <;> rfl
  rw [← setWidth_cmpi_eq]
  show (IntOp.cmpi .eq (broadcastTo S1x1000x4096 (shapeCast S1x1x4096 x shapeCasts_S1x1x4096_S1x1x4096)
      broadcasts_S1x1x4096_S1x1000x4096 (ix3 0 k r)) (iota .tc S1x1000x4096 32 [1] iota_S1x1000x4096_d1_w32 (ix3 0 k r)
        + BitVec.ofNat 32 (i 1).val * 1000#32)).setWidth 32 = _
  rw [hx, hi, h1]
  simp

/-- The same at any index of the block. -/
theorem payload_at (i : grid0.Coords) (x : Vec F S1x1x4096 .i32) (y : S1x1000x4096.Idx) :
    k0_pay1 i x y = hot (x (ix3 (n0 := 1) (n1 := 1) (n2 := 4096) 0 0 (y 2))) (y 1).val := by
  have h0 : y 0 = (0 : Fin 1) := Fin.fin_one_eq_zero _
  have hy : y = ix3 (n0 := 1) (n1 := 1000) (n2 := 4096) 0 (y 1) (y 2) := by
    rw [← h0]; exact eq_ix3 y
  conv_lhs => rw [hy]
  exact payload_apply i x (y 1) (y 2)

/-- The second call's body is the first's. -/
theorem payload1_eq (i : grid1.Coords) (x : Vec F S1x1x4096 .i32) : k1_pay1 i x = k0_pay1 i x := rfl

/-- The first call's blocks: column `t`, all classes and rows. -/
theorem index0 : ∀ t : Fin cfg0.N, win0_0.index t = ![t.val, 0, 0] ∧ win0_1.index t = ![t.val, 0, 0] :=
  (by decide +kernel : ∀ t : Fin grid0.N, _)

/-- The second call's blocks: likewise. -/
theorem index1 : ∀ t : Fin cfg1.N, win1_0.index t = ![t.val, 0, 0] ∧ win1_1.index t = ![t.val, 0, 0] :=
  (by decide +kernel : ∀ t : Fin grid1.N, _)

/-- The first call leaves the one-hot encoding of the columns it was given. -/
theorem final0 (c : Dev nD) : (dat0 V c).arrAt 1 cfg0.N = encodeCols (V c main_v2) := by
  refine (dat0 V c).arrAt_eq_of_covers 1 _ (by decide +kernel) fun t _ y => ?_
  blk_simp
  rw [after0_1]
  unfold out0_1
  rw [View.canon_unit_zero zero3, View.ld_unit_zero zero3, payload_at]
  unfold encodeCols
  have hc : (((win0_1.blk t).view.emb y) 1).val = (y 1).val := by blk_simp [(index0 t).2]
  rw [hc]
  blk_simp [iblk0]
  refine congrArg (fun j => hot (V c main_v2 j) (y 1).val) ?_
  blk_ext [index0]

/-- The second call leaves the one-hot encoding of the columns it was given. -/
theorem final1 (c : Dev nD) : (dat1 V c).arrAt 1 cfg1.N = encodeCols (V c main_v4) := by
  refine (dat1 V c).arrAt_eq_of_covers 1 _ (by decide +kernel) fun t _ y => ?_
  blk_simp
  rw [after1_1]
  unfold out1_1
  rw [View.canon_unit_zero zero3, View.ld_unit_zero zero3, payload1_eq, payload_at]
  unfold encodeCols
  have hc : (((win1_1.blk t).view.emb y) 1).val = (y 1).val := by blk_simp [(index1 t).2]
  rw [hc]
  blk_simp [iblk1]
  refine congrArg (fun j => hot (V c main_v4 j) (y 1).val) ?_
  blk_ext [index1]

end Cert.KernelIdeal.Columns

end
-- ==== Proof.OneHot.Launch.lean ====
/- The idealized kernel's whole run, from launch to return: the result buffer ends at the contents that the fold through
   @main (`Gen.W5`) gives it, and the argument is unchanged. What those contents are is read in `Columns` and `Result`. -/
module

public import proofs.«01_k».proof.Proof.Gen.KernelIdeal.Frame

@[expose] public section

noncomputable section

namespace Cert.KernelIdeal.Launch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding plain
-- definitions in a metavariable's type
set_option backward.isDefEq.respectTransparency.types false in
/-- Every execution of @main terminates without fault, and every unscoped buffer of each device then holds what the last
    boundary of the fold through @main's five segments gives it. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W5 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun _ h _ => h)

/-- The run, read at the result and at the argument. -/
theorem run : θ_run defs (onTc (τ := τ) (main (F := F))) ⟨m, fun _ => 0, ρ⟩ (fun r => ∀ c : Dev nD,
      r.2.mem ((c.tc : Thread nD τ).loc main_v7) = W5 m ρ c (Proc.devRef .tc main_v7)
      ∧ r.2.mem ((c.tc : Thread nD τ).loc main_arg0) = m ((c.tc : Thread nD τ).loc main_arg0)) :=
  (θ_run defs _ _).mono (fun _ h c => ⟨h c _ (mem_uc main_v7 (by decide)),
      (h c _ (mem_uc main_arg0 (by decide))).trans (W5_main_arg0 m ρ c)⟩)
    (run_all m ρ)

end Cert.KernelIdeal.Launch

end
-- ==== Proof.OneHot.Result.lean ====
/- The idealized kernel's result: @main's host operations around its two calls, read at an index. The index array is
   transposed to columns and cut into two runs of 13 columns; each call encodes its run (`Columns`); the two encodings are
   joined along the columns and transposed to (row, column, class). -/
module

public import proofs.«01_k».proof.Proof.OneHot.Columns
public import proofs.«01_k».proof.Proof.OneHot.Launch

@[expose] public section

noncomputable section

namespace Cert.KernelIdeal.Result

open Cert.KernelIdeal Cert.KernelIdeal.Gen Cert.OneHot
open Idealize.ShloMosaic Idealize.ShloMosaic.TcCoe Idealize.SL.Sem Idealize.ShloMosaic.StableHlo

variable {F : FTy → Type} [FloatOps F]

/-! ## The layout operations alone -/

/-- The index array as 26 columns of 4096 rows: transposed, with a unit axis between the two. -/
def columns (x : (⟨S4096x26, .i32⟩ : BufTy).Contents (Elt F)) : (⟨S26x1x4096, .i32⟩ : BufTy).Contents (Elt F) :=
  shapeCast S26x1x4096 (transpose S26x4096 [1, 0] x transposes_S4096x26_S26x4096_1_0) shapeCasts_S26x4096_S26x1x4096

/-- Entry (c, 0, r) of the columns is entry (r, c) of the index array. -/
theorem columns_apply (x : (⟨S4096x26, .i32⟩ : BufTy).Contents (Elt F)) (c : Fin 26) (r : Fin 4096) :
    columns (F := F) x (ix3 c 0 r) = x (ix2 r c) := by
  unfold columns
  rw [shapeCast_apply _ _ _ (ix2 (n0 := 26) (n1 := 4096) c r)
    (by rw [Shape.rowMajor_val_two, Shape.rowMajor_val_three]; show c.val * 4096 + r.val = (c.val * 1 + 0) * 4096 + r.val; omega)]
  exact transpose_apply _ _ _ _ _ fun b => by fin_cases b <;> rfl

/-- The first 13 columns. -/
def lower (z : (⟨S26x1x4096, .i32⟩ : BufTy).Contents (Elt F)) : (⟨S13x1x4096, .i32⟩ : BufTy).Contents (Elt F) :=
  extractStridedSlice S13x1x4096 ![0, 0, 0] z slices_S26x1x4096_S13x1x4096_0_0_0

/-- The last 13 columns. -/
def upper (z : (⟨S26x1x4096, .i32⟩ : BufTy).Contents (Elt F)) : (⟨S13x1x4096, .i32⟩ : BufTy).Contents (Elt F) :=
  extractStridedSlice S13x1x4096 ![13, 0, 0] z slices_S26x1x4096_S13x1x4096_13_0_0

/-- Column `c` of the first 13 is column `c`. -/
theorem lower_apply (z : (⟨S26x1x4096, .i32⟩ : BufTy).Contents (Elt F)) (c : Fin 13) (r : Fin 4096) :
    lower (F := F) z (ix3 c 0 r) = z (ix3 ⟨c.val, by omega⟩ 0 r) :=
  extractStridedSlice_apply _ _ _ _ _ fun a => by
    fin_cases a
    · exact (Nat.zero_add _).symm
    · rfl
    · exact (Nat.zero_add _).symm

/-- Column `c` of the last 13 is column `13 + c`. -/
theorem upper_apply (z : (⟨S26x1x4096, .i32⟩ : BufTy).Contents (Elt F)) (c : Fin 13) (r : Fin 4096) :
    upper (F := F) z (ix3 c 0 r) = z (ix3 ⟨13 + c.val, by omega⟩ 0 r) :=
  extractStridedSlice_apply _ _ _ _ _ fun a => by
    fin_cases a
    · rfl
    · rfl
    · exact (Nat.zero_add _).symm

/-- Two encodings of 13 columns, joined along the columns. -/
def joined (a b : (⟨S13x1000x4096, .i32⟩ : BufTy).Contents (Elt F)) : (⟨S26x1000x4096, .i32⟩ : BufTy).Contents (Elt F) :=
  concatenate S26x1000x4096 0 [⟨S13x1000x4096, a⟩, ⟨S13x1000x4096, b⟩] concatenates_S13x1000x4096_S13x1000x4096_S26x1000x4096_d0

/-- A column below 13 of the joined encodings is the first's. -/
theorem joined_lower (a b : (⟨S13x1000x4096, .i32⟩ : BufTy).Contents (Elt F)) (c : Fin 26) (k : Fin 1000) (r : Fin 4096)
    (h : c.val < 13) : joined (F := F) a b (ix3 c k r) = a (ix3 ⟨c.val, h⟩ k r) := by
  unfold joined
  exact concatenate_pair_apply_left (t := S26x1000x4096) 0 a b
    concatenates_S13x1000x4096_S13x1000x4096_S26x1000x4096_d0 (ix3 c k r) rfl
    (ix3 (n0 := 13) (n1 := 1000) (n2 := 4096) ⟨c.val, h⟩ k r) fun d => by fin_cases d <;> rfl

/-- A column from 13 on is the second's, 13 columns earlier. -/
theorem joined_upper (a b : (⟨S13x1000x4096, .i32⟩ : BufTy).Contents (Elt F)) (c : Fin 26) (k : Fin 1000) (r : Fin 4096)
    (h : 13 ≤ c.val) : joined (F := F) a b (ix3 c k r) = b (ix3 ⟨c.val - 13, by omega⟩ k r) := by
  unfold joined
  exact concatenate_pair_apply_right (t := S26x1000x4096) 0 a b
    concatenates_S13x1000x4096_S13x1000x4096_S26x1000x4096_d0 (ix3 c k r) rfl rfl
    (ix3 (n0 := 13) (n1 := 1000) (n2 := 4096) ⟨c.val - 13, by omega⟩ k r)
    (fun d hd => by
      fin_cases d
      · exact absurd rfl hd
      · rfl
      · rfl)
    (Nat.sub_add_cancel h)

/-- Joining the encodings of the two runs of columns and transposing gives the encoding of the index array. -/
theorem layout (x : (⟨S4096x26, .i32⟩ : BufTy).Contents (Elt F)) :
    transpose S4096x26x1000 [2, 0, 1]
      (joined (F := F) (encodeCols (lower (F := F) (columns (F := F) x))) (encodeCols (upper (F := F) (columns (F := F) x))))
      transposes_S26x1000x4096_S4096x26x1000_2_0_1 = encode x := by
  funext i
  obtain ⟨r, c, k, rfl⟩ : ∃ (r : Fin 4096) (c : Fin 26) (k : Fin 1000), i = ix3 r c k := ⟨i 0, i 1, i 2, eq_ix3 i⟩
  rw [transpose_apply _ _ _ _ (ix3 (n0 := 26) (n1 := 1000) (n2 := 4096) c k r) (fun b => by fin_cases b <;> rfl)]
  show _ = hot (x (ix2 r c)) k.val
  by_cases h : c.val < 13
  · rw [joined_lower _ _ _ _ _ h]
    show hot (lower (F := F) (columns (F := F) x) (ix3 ⟨c.val, h⟩ 0 r)) k.val = _
    rw [lower_apply, columns_apply]
  · have h' : 13 ≤ c.val := Nat.le_of_not_lt h
    rw [joined_upper _ _ _ _ _ h']
    show hot (upper (F := F) (columns (F := F) x) (ix3 ⟨c.val - 13, _⟩ 0 r)) k.val = _
    have hc : (⟨13 + (c.val - 13), by omega⟩ : Fin 26) = c := Fin.ext (by show 13 + (c.val - 13) = c.val; omega)
    rw [upper_apply, columns_apply]
    exact congrArg (fun c' => hot (x (ix2 r c')) k.val) hc

/-! ## The buffers along @main -/

variable (m : (ℓ : Loc nD τ sig) → Buf (Elt F) ℓ) (ρ : Dev nD → PrngReg) (c : Dev nD)

/-- The columns, when the first call starts. -/
theorem W1_v1 : W1 m ρ c (Proc.devRef .tc main_v1) = columns (F := F) (m ((c : Thread nD τ).loc main_arg0)) := by
  show after hostOps0 _ _ = _
  after_results
  rfl

/-- What the first call is given. -/
theorem V1_v2 : V1 m ρ c main_v2 = lower (F := F) (columns (F := F) (m ((c : Thread nD τ).loc main_arg0))) := by
  show after hostOps0 _ _ = _
  after_results
  rfl

/-- What the second call is given: the first call leaves the columns alone. -/
theorem V3_v4 : V3 m ρ c main_v4 = upper (F := F) (columns (F := F) (m ((c : Thread nD τ).loc main_arg0))) := by
  have h : W2 m ρ c (Proc.devRef .tc main_v1) = columns (F := F) (m ((c : Thread nD τ).loc main_arg0)) :=
    (W2_of_ne m ρ c main_v1 (by decide)).trans (W1_v1 m ρ c)
  rw [← h]
  show after hostOps1 _ _ = _
  after_results
  rfl

/-- What the first call left, when the second has run. -/
theorem W4_v3 : W4 m ρ c (Proc.devRef .tc main_v3)
    = encodeCols (lower (F := F) (columns (F := F) (m ((c : Thread nD τ).loc main_arg0)))) := by
  rw [W4_of_ne m ρ c main_v3 (by decide), W3_of m ρ c main_v3 (by decide), ← V1_v2 m ρ c]
  exact (W2_arr m ρ c 1).trans (Columns.final0 (V1 m ρ) c)

/-- What the second call left. -/
theorem W4_v5 : W4 m ρ c (Proc.devRef .tc main_v5)
    = encodeCols (upper (F := F) (columns (F := F) (m ((c : Thread nD τ).loc main_arg0)))) := by
  rw [← V3_v4 m ρ c]
  exact (W4_arr m ρ c 1).trans (Columns.final1 (V3 m ρ) c)

/-- The result at @main's end is the one-hot encoding of the index array. -/
theorem W5_v7 : W5 m ρ c (Proc.devRef .tc main_v7) = encode (m ((c : Thread nD τ).loc main_arg0)) := by
  rw [← layout (F := F) (m ((c : Thread nD τ).loc main_arg0)), ← W4_v3 m ρ c, ← W4_v5 m ρ c]
  show after hostOps2 _ _ = _
  after_results
  rfl

/-- Every execution of the kernel's @main terminates without fault with the one-hot encoding of the index array as its
    result and the index array unchanged. -/
theorem run : θ_run defs (onTc (τ := τ) (main (F := F))) ⟨m, fun _ => 0, ρ⟩ (fun r => ∀ c : Dev nD,
      r.2.mem ((c.tc : Thread nD τ).loc main_v7) = encode (m ((c.tc : Thread nD τ).loc main_arg0))
      ∧ r.2.mem ((c.tc : Thread nD τ).loc main_arg0) = m ((c.tc : Thread nD τ).loc main_arg0)) :=
  (θ_run defs _ _).mono (fun _ h c => ⟨(h c).1.trans (W5_v7 m ρ c), (h c).2⟩) (Launch.run m ρ)

end Cert.KernelIdeal.Result

end
-- ==== Proof.OneHot.Reference.lean ====
/- The reference's result: its index array compared with the class numbers is the one-hot encoding. -/
module

public import proofs.«01_k».proof.Proof.OneHot.Spec
public import proofs.«01_k».proof.Proof.Gen.ReferenceIdeal.Read

@[expose] public section

noncomputable section

namespace Cert.ReferenceIdeal.Result

open Cert.ReferenceIdeal Cert.ReferenceIdeal.Gen Cert.ReferenceIdeal.Read Cert.OneHot
open Idealize.ShloMosaic Idealize.ShloMosaic.TcCoe Idealize.SL.Sem

variable {F : FTy → Type} [FloatOps F]

/-- The reference's last value is the one-hot encoding of its argument. -/
theorem value (x : (⟨S4096x26, .i32⟩ : BufTy).Contents (Elt F)) : val_main_v6 (F := F) x = encode x := by
  funext i
  obtain ⟨r, c, k, rfl⟩ : ∃ (r : Fin 4096) (c : Fin 26) (k : Fin 1000), i = ix3 r c k := ⟨i 0, i 1, i 2, eq_ix3 i⟩
  rw [val_main_v6_apply, val_main_v5_apply, val_main_v3_apply, val_main_v0_apply, val_main_v4_apply, val_main_v2_apply,
    val_main_v1_apply]
  have hx : idx_main_v0 (idx_main_v3 (ix3 (n0 := 4096) (n1 := 26) (n2 := 1000) r c k)) = ix2 (n0 := 4096) (n1 := 26) r c :=
    funext fun a => by fin_cases a <;> rfl
  rw [hx]
  exact setWidth_cmpi_eq _ k.val

/-- Every execution of the reference's @main terminates without fault with the one-hot encoding of its argument as its
    result and the argument unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v6) = encode (m ((c.tc : Thread nD τ).loc main_arg0))
      ∧ r.2.mem ((c.tc : Thread nD τ).loc main_arg0) = m ((c.tc : Thread nD τ).loc main_arg0)) :=
  (θ_run defs _ _).mono (fun _ h c => ⟨(h c).1.trans ((val_main_v6_eq _).trans (value _)), (h c).2⟩) (Value.run m ρ)

end Cert.ReferenceIdeal.Result

end
-- ==== Proof.lean ====
/- The certificate: five claims about a one-hot kernel, its idealization and its reference, proved together as
   `Cert.Proof.claim`. The frames of the two kernel programs are generated; the reference's frame and the equality of
   results rest on `Proof/OneHot/`: the encoding as a function (`Spec`), what each of the kernel's two calls leaves
   (`Columns`), the kernel's whole run (`Launch`, `Result`) and the reference's (`Reference`). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.OneHot.Result
public import proofs.«01_k».proof.Proof.OneHot.Reference
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel and the reference end with the same result, the one-hot encoding of the index array they share. -/
theorem algebraic : Cert.algebraic_KernelIdeal_ReferenceIdeal := fun m g m' g' _ hargs =>
  ⟨fun c => Cert.OneHot.encode (m ((c.tc : Thread Cert.KernelIdeal.nD Cert.KernelIdeal.τ).loc Cert.KernelIdeal.main_arg0)),
    Cert.KernelIdeal.Result.run m g,
    (θ_run _ _ _).mono (fun _ h c => ⟨(h c).1.trans (congrArg Cert.OneHot.encode (hargs c)), (h c).2⟩)
      (Cert.ReferenceIdeal.Result.run m' g')⟩

/-- The reference runs, leaves its argument unchanged, and has no semaphore that could end away from zero. -/
theorem frame_reference : Cert.quiescent_ReferenceIdeal := fun m g _ =>
  (θ_run _ _ _).mono (fun r h => ⟨fun c => (h c).2, sem_eq_zero_of_no_sems (by decide) r.2⟩)
    (Cert.ReferenceIdeal.Result.run m g)

/-- The certificate: the kernel's frame as lowered and at exact numbers, the reference's frame, the idealization (which
    rewrites nothing), and the equality of results. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, frame_reference, trivial, algebraic⟩

end Cert.Proof

end
